-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8192 : Shape := ⟨3, ![256, 1, 8192]⟩
abbrev S4096x8192 : Shape := ⟨2, ![4096, 8192]⟩
abbrev S64x8192 : Shape := ⟨2, ![64, 8192]⟩
abbrev S256x8192 : Shape := ⟨2, ![256, 8192]⟩
abbrev S4096x512 : Shape := ⟨2, ![4096, 512]⟩
abbrev S64x512 : Shape := ⟨2, ![64, 512]⟩
abbrev S256x512 : Shape := ⟨2, ![256, 512]⟩
abbrev S256x256 : Shape := ⟨2, ![256, 256]⟩
abbrev S1x512 : Shape := ⟨2, ![1, 512]⟩
abbrev S128x512 : Shape := ⟨2, ![128, 512]⟩

abbrev nBuf : Space → Nat
  | .hbm => 6
  | .vmem => 10
  | .smem => 0
  | _ => 0

abbrev bufTy : (tb : Table) → Fin (tcTables nBuf tb) → BufTy
  | .hbm, ⟨0, _⟩ => ⟨S256x1x8192, .bf16⟩
  | .hbm, ⟨1, _⟩ => ⟨S4096x8192, .i8⟩
  | .hbm, ⟨2, _⟩ => ⟨S64x8192, .bf16⟩
  | .hbm, ⟨3, _⟩ => ⟨S64x8192, .bf16⟩
  | .hbm, ⟨4, _⟩ => ⟨S256x8192, .bf16⟩
  | .hbm, ⟨5, _⟩ => ⟨S256x8192, .bf16⟩
  | .local _ .vmem, ⟨0, _⟩ => ⟨S256x8192, .bf16⟩
  | .local _ .vmem, ⟨1, _⟩ => ⟨S4096x512, .i8⟩
  | .local _ .vmem, ⟨2, _⟩ => ⟨S4096x512, .i8⟩
  | .local _ .vmem, ⟨3, _⟩ => ⟨S64x512, .bf16⟩
  | .local _ .vmem, ⟨4, _⟩ => ⟨S64x512, .bf16⟩
  | .local _ .vmem, ⟨5, _⟩ => ⟨S64x512, .bf16⟩
  | .local _ .vmem, ⟨6, _⟩ => ⟨S64x512, .bf16⟩
  | .local _ .vmem, ⟨7, _⟩ => ⟨S256x512, .bf16⟩
  | .local _ .vmem, ⟨8, _⟩ => ⟨S256x512, .bf16⟩
  | .local _ .vmem, ⟨9, _⟩ => ⟨S256x8192, .bf16⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x1x8192 : Shape := ⟨3, ![256, 1, 8192]⟩
abbrev S4096x8192 : Shape := ⟨2, ![4096, 8192]⟩
abbrev S64x8192 : Shape := ⟨2, ![64, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S256x1x64x128 : Shape := ⟨4, ![256, 1, 64, 128]⟩
abbrev S32x8192 : Shape := ⟨2, ![32, 8192]⟩
abbrev S32x128x8192 : Shape := ⟨3, ![32, 128, 8192]⟩
abbrev S32x1x8192 : Shape := ⟨3, ![32, 1, 8192]⟩
abbrev S256x1x4096 : Shape := ⟨3, ![256, 1, 4096]⟩
abbrev S256x8192 : Shape := ⟨2, ![256, 8192]⟩

abbrev nBuf : Space → Nat
  | .hbm => 67
  | .vmem => 0
  | .smem => 0
  | _ => 0

abbrev bufTy : (tb : Table) → Fin (tcTables nBuf tb) → BufTy
  | .hbm, ⟨0, _⟩ => ⟨S256x1x8192, .bf16⟩
  | .hbm, ⟨1, _⟩ => ⟨S4096x8192, .i8⟩
  | .hbm, ⟨2, _⟩ => ⟨S64x8192, .bf16⟩
  | .hbm, ⟨3, _⟩ => ⟨S64x8192, .bf16⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i1⟩
  | .hbm, ⟨17, _⟩ => ⟨S_, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S256x1x8192, .f32⟩
  | .hbm, ⟨27, _⟩ => ⟨S256x1x64x128, .f32⟩
  | .hbm, ⟨28, _⟩ => ⟨S256x1x64x128, .f32⟩
  | .hbm, ⟨29, _⟩ => ⟨S256x1x8192, .f32⟩
  | .hbm, ⟨30, _⟩ => ⟨S256x1x8192, .bf16⟩
  | .hbm, ⟨31, _⟩ => ⟨S4096x8192, .i32⟩
  | .hbm, ⟨32, _⟩ => ⟨S_, .i32⟩
  | .hbm, ⟨33, _⟩ => ⟨S4096x8192, .i32⟩
  | .hbm, ⟨34, _⟩ => ⟨S4096x8192, .i32⟩
  | .hbm, ⟨35, _⟩ => ⟨S_, .i32⟩
  | .hbm, ⟨36, _⟩ => ⟨S4096x8192, .i32⟩
  | .hbm, ⟨37, _⟩ => ⟨S4096x8192, .i32⟩
  | .hbm, ⟨38, _⟩ => ⟨S32x8192, .bf16⟩
  | .hbm, ⟨39, _⟩ => ⟨S32x8192, .bf16⟩
  | .hbm, ⟨40, _⟩ => ⟨S4096x8192, .bf16⟩
  | .hbm, ⟨41, _⟩ => ⟨S32x128x8192, .bf16⟩
  | .hbm, ⟨42, _⟩ => ⟨S32x1x8192, .bf16⟩
  | .hbm, ⟨43, _⟩ => ⟨S32x128x8192, .bf16⟩
  | .hbm, ⟨44, _⟩ => ⟨S32x128x8192, .bf16⟩
  | .hbm, ⟨45, _⟩ => ⟨S32x1x8192, .bf16⟩
  | .hbm, ⟨46, _⟩ => ⟨S32x128x8192, .bf16⟩
  | .hbm, ⟨47, _⟩ => ⟨S32x128x8192, .bf16⟩
  | .hbm, ⟨48, _⟩ => ⟨S4096x8192, .bf16⟩
  | .hbm, ⟨49, _⟩ => ⟨S32x8192, .bf16⟩
  | .hbm, ⟨50, _⟩ => ⟨S32x8192, .bf16⟩
  | .hbm, ⟨51, _⟩ => ⟨S4096x8192, .bf16⟩
  | .hbm, ⟨52, _⟩ => ⟨S32x128x8192, .bf16⟩
  | .hbm, ⟨53, _⟩ => ⟨S32x1x8192, .bf16⟩
  | .hbm, ⟨54, _⟩ => ⟨S32x128x8192, .bf16⟩
  | .hbm, ⟨55, _⟩ => ⟨S32x128x8192, .bf16⟩
  | .hbm, ⟨56, _⟩ => ⟨S32x1x8192, .bf16⟩
  | .hbm, ⟨57, _⟩ => ⟨S32x128x8192, .bf16⟩
  | .hbm, ⟨58, _⟩ => ⟨S32x128x8192, .bf16⟩
  | .hbm, ⟨59, _⟩ => ⟨S4096x8192, .bf16⟩
  | .hbm, ⟨60, _⟩ => ⟨S256x1x4096, .bf16⟩
  | .hbm, ⟨61, _⟩ => ⟨S256x1x8192, .f32⟩
  | .hbm, ⟨62, _⟩ => ⟨S256x1x4096, .bf16⟩
  | .hbm, ⟨63, _⟩ => ⟨S256x1x8192, .f32⟩
  | .hbm, ⟨64, _⟩ => ⟨S256x1x8192, .f32⟩
  | .hbm, ⟨65, _⟩ => ⟨S256x1x8192, .bf16⟩
  | .hbm, ⟨66, _⟩ => ⟨S256x8192, .bf16⟩
  | _, _ => ⟨S256x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Proof.Spec.lean ====
/-
  The values both programs compute, one row of activations and one column of packed weights at a time, over the extended
  reals.

    sgn a b             entry (a, b) of the 128 × 128 matrix of signs: +1 or −1 by the parity of the bits a and b share
    rotRow x q          entry q of a row of activations after its rotation: the row's group of 128 against one column of signs
    lowCode, highCode   the two four-bit codes of a byte
    dotCol xr p s z     one output: the rotated row against one column of dequantized weights

  The facts about them that both sides need: the scale of the signs is a non-negative finite number, and the integer
  forms of the sign and of the codes that the two programs use are these.
-/
module

public import Idealize.ShloMosaic.Lib.Pointwise

@[expose] public section

noncomputable section

namespace Cert.Spec

open Idealize.ShloMosaic

/-! ## The definitions -/

/-- How many bits are set among the low seven of a number. -/
def bitCount (m : ℕ) : ℕ := ((List.range 7).filter fun i => m.testBit i).length

/-- The sign of entry (a, b): +1 when a and b share an even number of bits, −1 otherwise. -/
def sgn (a b : ℕ) : EReal := if bitCount (a &&& b) % 2 = 0 then 1 else -1

/-- The scale of the signs: the number nearest to 1/√128. -/
def scale : EReal := Ideal.ofBits .f32 0x3DB504F3#32

/-- Entry `q` of a rotated row. -/
def rotRow (x : Fin 8192 → EReal) (q : Fin 8192) : EReal :=
  ∑ a : Fin 128, x ⟨q.val / 128 * 128 + a.val, by omega⟩ * (sgn a.val (q.val % 128) * scale)

/-- The low four bits of a byte, as a number. -/
def lowCode (p : BitVec 8) : EReal := ((((p.toNat % 16 : ℕ) : ℤ) : ℝ) : EReal)

/-- The high four bits of a byte, as a number. -/
def highCode (p : BitVec 8) : EReal := ((((p.toNat / 16 : ℕ) : ℤ) : ℝ) : EReal)

/-- One output: the first half of the rotated row against the low codes' weights, and the second half against the high
    codes'. A weight is its code less its group's zero point, times its group's scale; a group is 128 rows. -/
def dotCol (xr : Fin 8192 → EReal) (p : Fin 4096 → BitVec 8) (s z : Fin 64 → EReal) : EReal :=
  (∑ k : Fin 4096, xr ⟨k.val, by omega⟩ * ((lowCode (p k) - z ⟨k.val / 128, by omega⟩) * s ⟨k.val / 128, by omega⟩)) +
  ∑ k : Fin 4096, xr ⟨4096 + k.val, by omega⟩ *
    ((highCode (p k) - z ⟨32 + k.val / 128, by omega⟩) * s ⟨32 + k.val / 128, by omega⟩)

/-! ## Constants -/

/-- The word the programs write for minus one reads as minus one. -/
theorem neg_one_word : Ideal.ofBits .f32 3212836864#32 = -1 := by
  simp [Ideal.ofBits, Ideal.ieee, -EReal.coe_mul]; norm_num

/-- The scale is a real number that is not negative. -/
theorem scale_real : ∃ g : ℝ, 0 ≤ g ∧ scale = (g : EReal) := by
  refine ⟨11863283 / 134217728, by norm_num, ?_⟩
  unfold scale
  simp [Ideal.ofBits, Ideal.ieee, -EReal.coe_mul]; norm_num

/-- The scale is not negative. -/
theorem scale_nonneg : 0 ≤ scale := by
  obtain ⟨g, hg, e⟩ := scale_real
  rw [e]; exact_mod_cast hg

/-- The scale is finite. -/
theorem scale_ne_top : scale ≠ ⊤ := by
  obtain ⟨g, _, e⟩ := scale_real
  rw [e]; exact EReal.coe_ne_top g

/-- A finite non-negative factor goes inside a sum, whatever the terms. -/
theorem sum_mul_of_nonneg {ι : Type*} (t : Finset ι) (f : ι → EReal) {g : EReal} (h0 : 0 ≤ g) (ht : g ≠ ⊤) :
    (∑ a ∈ t, f a) * g = ∑ a ∈ t, f a * g := by
  classical
  induction t using Finset.induction_on with
  | empty => simp
  | insert a t ha ih => rw [Finset.sum_insert ha, Finset.sum_insert ha, EReal.right_distrib_of_nonneg_of_ne_top h0 ht, ih]

/-! ## The integer forms -/

/-- The bitwise conjunction of two small words is the word of the conjunction. -/
theorem ofNat_and (a b : ℕ) : BitVec.ofNat 32 a &&& BitVec.ofNat 32 b = BitVec.ofNat 32 (a &&& b) := by
  apply BitVec.eq_of_toNat_eq
  simp only [BitVec.toNat_and, BitVec.toNat_ofNat]
  rw [Nat.and_mod_two_pow]

/-- A sign chosen by the parity of the population count. -/
theorem sgn_of_ctpop (a b : ℕ) (ha : a < 128) :
    Scalar.select (IntOp.cmpi .eq (IntOp.andi (IntOp.ctpop (IntOp.andi (BitVec.ofNat 32 a) (BitVec.ofNat 32 b))) 1#32) 0#32)
      (1 : EReal) (-1) = sgn a b := by
  have hm : a &&& b < 128 := lt_of_le_of_lt Nat.and_le_left ha
  have key : ∀ m : Fin 128, IntOp.cmpi .eq (IntOp.andi (IntOp.ctpop (BitVec.ofNat 32 m.val)) 1#32) 0#32
      = BitVec.ofBool (decide (bitCount m.val % 2 = 0)) := by decide +kernel
  have := key ⟨a &&& b, hm⟩
  simp only at this
  unfold sgn
  rw [show IntOp.andi (BitVec.ofNat 32 a) (BitVec.ofNat 32 b) = BitVec.ofNat 32 (a &&& b) from ofNat_and a b, this]
  by_cases h : bitCount (a &&& b) % 2 = 0 <;> simp [h, Scalar.select]

/-- The parity of a word's bits, folded by halves into its lowest bit. -/
def parity (w : BitVec 32) : BitVec 1 :=
  let u := IntOp.xori w (IntOp.shrsi .vector w 4#32)
  let v := IntOp.xori u (IntOp.shrsi .vector u 2#32)
  IntOp.cmpi .eq (IntOp.andi (IntOp.xori v (IntOp.shrsi .vector v 1#32)) 1#32) 0#32

/-- A sign chosen by the folded parity of the low seven bits. -/
theorem sgn_of_parity (k j : ℕ) :
    Scalar.select (parity (IntOp.andi (IntOp.andi (BitVec.ofNat 32 k) (BitVec.ofNat 32 j)) 127#32)) (1 : EReal) (-1)
      = sgn (k % 128) (j % 128) := by
  have key : ∀ m : Fin 128, parity (BitVec.ofNat 32 m.val) = BitVec.ofBool (decide (bitCount m.val % 2 = 0)) := by
    decide +kernel
  have hm : IntOp.andi (IntOp.andi (BitVec.ofNat 32 k) (BitVec.ofNat 32 j)) 127#32
      = BitVec.ofNat 32 (k % 128 &&& j % 128) := by
    show BitVec.ofNat 32 k &&& BitVec.ofNat 32 j &&& BitVec.ofNat 32 127 = _
    rw [ofNat_and, ofNat_and]
    congr 1
    rw [show (127 : ℕ) = 2 ^ 7 - 1 from rfl, Nat.and_two_pow_sub_one_eq_mod, Nat.and_mod_two_pow]
  have hlt : k % 128 &&& j % 128 < 128 := lt_of_le_of_lt Nat.and_le_left (Nat.mod_lt _ (by decide))
  have := key ⟨_, hlt⟩
  simp only at this
  unfold sgn
  rw [hm, this]
  by_cases h : bitCount (k % 128 &&& j % 128) % 2 = 0 <;> simp [h, Scalar.select]

/-- The quotient by 128 rounded down, as the kernel writes it. -/
def blockOf (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 128#32 0#32)) (Scalar.extui (Scalar.cmpi .slt 128#32 0#32))))
      (IntOp.cmpi .ne (IntOp.remsi .vector w 128#32) 0#32))
    (IntOp.subi (IntOp.divsi .vector w 128#32) 1#32)
    (IntOp.divsi .vector w 128#32)

/-- Two indices below 256 lie in the same block of 128 exactly when the words say so. -/
theorem blockOf_eq (k j : Fin 256) :
    IntOp.cmpi .eq (blockOf (BitVec.ofNat 32 k.val)) (blockOf (BitVec.ofNat 32 j.val))
      = BitVec.ofBool (decide (k.val / 128 = j.val / 128)) := by
  have key : ∀ k : Fin 256, blockOf (BitVec.ofNat 32 k.val) = BitVec.ofNat 32 (k.val / 128) := by decide +kernel
  rw [key, key]
  have fin : ∀ a b : Fin 2, IntOp.cmpi .eq (BitVec.ofNat 32 a.val) (BitVec.ofNat 32 b.val)
      = BitVec.ofBool (decide (a.val = b.val)) := by decide
  exact fin ⟨k.val / 128, by omega⟩ ⟨j.val / 128, by omega⟩

/-- The low code by a mask of the byte. -/
theorem low_of_byte (p : BitVec 8) : (((IntOp.andi p 15#8).toInt : ℝ) : EReal) = lowCode p := by
  have key : ∀ n : Fin 256, (IntOp.andi (BitVec.ofNat 8 n.val) 15#8).toInt = ((n.val % 16 : ℕ) : ℤ) := by decide +kernel
  have := key ⟨p.toNat, p.isLt⟩
  simp only [BitVec.ofNat_toNat, BitVec.setWidth_eq] at this
  unfold lowCode; rw [this]

/-- The low code by a mask of the byte widened. -/
theorem low_of_word (p : BitVec 8) : (((IntOp.andi (BitVec.setWidth 32 p) 15#32).toInt : ℝ) : EReal) = lowCode p := by
  have key : ∀ n : Fin 256, (IntOp.andi (BitVec.setWidth 32 (BitVec.ofNat 8 n.val)) 15#32).toInt = ((n.val % 16 : ℕ) : ℤ) := by
    decide +kernel
  have := key ⟨p.toNat, p.isLt⟩
  simp only [BitVec.ofNat_toNat, BitVec.setWidth_eq] at this
  unfold lowCode; rw [this]

/-- The high code by a shift of the byte widened, narrowed again. -/
theorem high_of_byte (p : BitVec 8) :
    (((BitVec.setWidth 8 (IntOp.shrsi .vector (BitVec.setWidth 32 p) 4#32)).toInt : ℝ) : EReal) = highCode p := by
  have key : ∀ n : Fin 256, (BitVec.setWidth 8 (IntOp.shrsi .vector (BitVec.setWidth 32 (BitVec.ofNat 8 n.val)) 4#32)).toInt
      = ((n.val / 16 : ℕ) : ℤ) := by decide +kernel
  have := key ⟨p.toNat, p.isLt⟩
  simp only [BitVec.ofNat_toNat, BitVec.setWidth_eq] at this
  unfold highCode; rw [this]

/-- The high code by a shift of the byte widened. -/
theorem high_of_word (p : BitVec 8) :
    (((IntOp.shrsi .host (BitVec.setWidth 32 p) 4#32).toInt : ℝ) : EReal) = highCode p := by
  have key : ∀ n : Fin 256, (IntOp.shrsi .host (BitVec.setWidth 32 (BitVec.ofNat 8 n.val)) 4#32).toInt
      = ((n.val / 16 : ℕ) : ℤ) := by decide +kernel
  have := key ⟨p.toNat, p.isLt⟩
  simp only [BitVec.ofNat_toNat, BitVec.setWidth_eq] at this
  unfold highCode; rw [this]

end Cert.Spec
-- ==== Proof.Body.lean ====
/-
  What the kernel's body leaves in its output block and in the scratch it carries between grid points, as closed terms
  over the input blocks: one lemma per case of the body. The terms are stated for any float values.

    rotated x0        the scratch after the first point: 32 column blocks of 256, each the block of `x0` times the sign
                      matrix, scaled
    acc x1 x2 x3 xs n the accumulator after `n` chunks of 256 packed rows
    out_A, out_B      the output block of the first and of every later point
    sout_A            the scratch the first point leaves
-/
module

public import proofs.«01_k».proof.Proof.Gen.KernelIdeal.Frame
public import Idealize.ShloMosaic.Lib.Pipeline.Value

@[expose] public section

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-! ## The pieces the body reads and writes -/

/-- Columns `256 c … 256 c + 255` of the activations. -/
abbrev colRect (c : ℕ) (h : c < 32) : Rect S256x8192 :=
  Rect.unit ![0, 256 * c] ![256, 256] (fun a => by fin_cases a <;> simp <;> omega)

/-- Rows `256 c … 256 c + 255` of the packed weights' block. -/
abbrev rowRect (c : ℕ) (h : c < 16) : Rect S4096x512 :=
  Rect.unit ![256 * c, 0] ![256, 512] (fun a => by fin_cases a <;> simp <;> omega)

/-- Row `g` of the scales' or the zero points' block. -/
abbrev grpRect (g : ℕ) (h : g < 64) : Rect S64x512 :=
  Rect.unit ![g, 0] ![1, 512] (fun a => by fin_cases a <;> simp <;> omega)

/-! ## The rotation -/

/-- The block-diagonal matrix of signs: two Hadamard matrices of 128 rows on the diagonal. -/
def signs : FVec F S256x256 .bf16 := k0_pay4 (iota .tc S256x256 32 [1] iota_S256x256_d1_w32) k0_pay2 k0_pay3

/-- One column block rotated: its product with the signs, scaled. -/
def rotBlock (x : Vec F S256x256 .bf16) : FVec F S256x256 .bf16 :=
  truncf .bf16 (mulf (matmul dot_S256x256_S256x256_S256x256_1_0_0_1_n_n none x signs (constant S256x256 .f32 0x00000000#32))
    (broadcast S256x256 (Scalar.ofBits .f32 0x3DB504F3#32))) bitsLt_bf16_f32

/-- The column block an index of the activations lies in. -/
theorem col_lt (y : S256x8192.Idx) : (y 1).val / 256 < 32 := by
  have : (y 1).val < 8192 := (y 1).isLt
  omega

/-- The index inside its column block. -/
def inCol (y : S256x8192.Idx) : S256x256.Idx := fun a =>
  match a with
  | ⟨0, _⟩ => ⟨(y 0).val, (y 0).isLt⟩
  | ⟨1, _⟩ => ⟨(y 1).val % 256, Nat.mod_lt _ (by decide)⟩

/-- The activations rotated, column block by column block. -/
def rotated (x0 : Vec F S256x8192 .bf16) : Vec F S256x8192 .bf16 := fun y =>
  rotBlock (View.ld x0 (colRect ((y 1).val / 256) (col_lt y))) (inCol y)

/-- The stores of the first `n` rotated column blocks, the last one first. -/
def pieces (x0 : Vec F S256x8192 .bf16) : (n : ℕ) → n ≤ 32 → List (View.Piece (Elt F) S256x8192 .bf16)
  | 0, _ => []
  | n + 1, h => ⟨colRect n h, rotBlock (View.ld x0 (colRect n h))⟩ :: pieces x0 n (Nat.le_of_succ_le h)

/-- The rotated block of columns `256 c …` is what `rotated` holds there. -/
theorem rotBlock_eq (x0 : Vec F S256x8192 .bf16) (c : ℕ) (h : c < 32) (x : (colRect c h).shape.Idx) :
    rotBlock (View.ld x0 (colRect c h)) x = rotated x0 ((colRect c h).emb x) := by
  have h1 : (x 1).val < 256 := (x 1).isLt
  have e1 : (((colRect c h).emb x) 1).val = 256 * c + 1 * (x 1).val := rfl
  have e0 : (((colRect c h).emb x) 0).val = 0 + 1 * (x 0).val := rfl
  unfold rotated
  have hc : (((colRect c h).emb x) 1).val / 256 = c := by rw [e1]; omega
  have hi : inCol ((colRect c h).emb x) = x := by
    funext a
    apply Fin.ext
    match a with
    | ⟨0, _⟩ => show (((colRect c h).emb x) 0).val = (x 0).val; rw [e0]; omega
    | ⟨1, _⟩ => show (((colRect c h).emb x) 1).val % 256 = (x 1).val; rw [e1]; omega
  rw [hi]
  have key : ∀ (d : ℕ) (hd : d < 32), d = c → rotBlock (View.ld x0 (colRect c h)) x = rotBlock (View.ld x0 (colRect d hd)) x := by
    rintro d hd rfl
    rfl
  exact key _ _ hc

/-- Every store of `pieces` agrees with `rotated`. -/
theorem pieces_agree (x0 : Vec F S256x8192 .bf16) : ∀ (n : ℕ) (h : n ≤ 32), ∀ p ∈ pieces x0 n h, ∀ x : p.1.shape.Idx,
    p.2 x = rotated x0 (p.1.emb x)
  | 0, _, p, hp, _ => by simp [pieces] at hp
  | n + 1, h, p, hp, x => by
    rcases List.mem_cons.mp hp with rfl | hp'
    · exact rotBlock_eq x0 n h x
    · exact pieces_agree x0 n _ p hp' x

/-! ## The product -/

/-- The low four bits of each packed byte, as a number. -/
def codeLo (p : Vec F S256x512 .i8) : FVec F S256x512 .bf16 := sitofp .bf16 (andi p (broadcast S256x512 15#8))

/-- The high four bits of each packed byte, as a number. -/
def codeHi (p : Vec F S256x512 .i8) : FVec F S256x512 .bf16 :=
  sitofp .bf16 (trunci 8 (shrsi (extui 32 p natLt_8_32) (broadcast S256x512 4#32)) natLt_8_32)

/-- 256 rows of weights: the codes less the zero point, times the scale, the first 128 rows by one group's row and the
    last 128 by the next group's. -/
def weight (q : FVec F S256x512 .bf16) (z s z' s' : Vec F S1x512 .bf16) : FVec F S256x512 .bf16 :=
  concatenate S256x512 0
    [⟨S128x512, mulf (subf (extractStridedSlice S128x512 ![0, 0] q slices_S256x512_o0_0_S128x512)
        (broadcastTo S128x512 z broadcasts_S1x512_S128x512)) (broadcastTo S128x512 s broadcasts_S1x512_S128x512)⟩,
     ⟨S128x512, mulf (subf (extractStridedSlice S128x512 ![128, 0] q slices_S256x512_o128_0_S128x512)
        (broadcastTo S128x512 z' broadcasts_S1x512_S128x512)) (broadcastTo S128x512 s' broadcasts_S1x512_S128x512)⟩]
    concatenates_S128x512_S128x512_S256x512_d0

/-- One product added to the accumulator. -/
def add1 (a : FVec F S256x512 .f32) (x : Vec F S256x256 .bf16) (w : FVec F S256x512 .bf16) : FVec F S256x512 .f32 :=
  addf a (matmul dot_S256x256_S256x512_S256x512_1_0_0_1_n_n none x w (constant S256x512 .f32 0x00000000#32))

/-- The accumulator after `n` chunks: each chunk of 256 packed rows adds its low codes' product, then its high codes'. -/
def acc (x1 : Vec F S4096x512 .i8) (x2 x3 : Vec F S64x512 .bf16) (xs : Vec F S256x8192 .bf16) :
    (n : ℕ) → n ≤ 16 → FVec F S256x512 .f32
  | 0, _ => broadcast S256x512 (Scalar.ofBits .f32 0x00000000#32)
  | n + 1, h =>
    add1 (add1 (acc x1 x2 x3 xs n (Nat.le_of_succ_le h))
      (View.ld xs (colRect n (by omega)))
      (weight (codeLo (View.ld x1 (rowRect n h))) (View.ld x3 (grpRect (2 * n) (by omega))) (View.ld x2 (grpRect (2 * n) (by omega)))
        (View.ld x3 (grpRect (2 * n + 1) (by omega))) (View.ld x2 (grpRect (2 * n + 1) (by omega)))))
      (View.ld xs (colRect (n + 16) (by omega)))
      (weight (codeHi (View.ld x1 (rowRect n h))) (View.ld x3 (grpRect (2 * n + 32) (by omega))) (View.ld x2 (grpRect (2 * n + 32) (by omega)))
        (View.ld x3 (grpRect (2 * n + 33) (by omega))) (View.ld x2 (grpRect (2 * n + 33) (by omega))))

/-- The output block: the accumulator after all 16 chunks. -/
def outBlock (x1 : Vec F S4096x512 .i8) (x2 x3 : Vec F S64x512 .bf16) (xs : Vec F S256x8192 .bf16) : FVec F S256x512 .bf16 :=
  truncf .bf16 (acc x1 x2 x3 xs 16 (Nat.le_refl _)) bitsLt_bf16_f32

/-! ## The body's two cases -/

theorem hz : (![0, 0] : Fin 2 → Nat) = fun _ => 0 := funext fun a => by fin_cases a <;> rfl

variable (c : Dev nD) (i : grid0.Coords) (arg1 : Memref sig .tc .vmem S256x8192 .bf16) (harg1 : arg1.IsWhole)
  (arg2 : Memref sig .tc .vmem S4096x512 .i8) (harg2 : arg2.IsWhole) (arg3 : Memref sig .tc .vmem S64x512 .bf16) (harg3 : arg3.IsWhole)
  (arg4 : Memref sig .tc .vmem S64x512 .bf16) (harg4 : arg4.IsWhole) (arg5 : Memref sig .tc .vmem S256x512 .bf16) (harg5 : arg5.IsWhole)
  (arg6 : Memref sig .tc .vmem S256x8192 .bf16) (harg6 : arg6.IsWhole)
  (x0 : Vec F S256x8192 .bf16) (x1 : Vec F S4096x512 .i8) (x2 x3 : Vec F S64x512 .bf16)

/-- A later point's output block, over the scratch it finds. -/
theorem out_B (hc0 : ¬cond0_0 i) (xs0 : Vec F S256x8192 .bf16) :
    out0_B_4 c i arg1 harg1 arg2 harg2 arg3 harg3 arg4 harg4 arg5 harg5 arg6 harg6 hc0 x0 x1 x2 x3 xs0
      = outBlock x1 x2 x3 xs0 := by
  unfold out0_B_4
  rw [View.read_writes_junk_eq_canon]
  unfold kernelRun0_B
  dsimp only
  sl_unfold_words
  rw [View.canon_unit_zero hz]
  simp only [View.readAt_eq_ld, harg2.read_unread, harg3.read_unread, harg4.read_unread, harg6.read_unread, shapeCast_self]
  rfl

/-- The scratch the first point leaves. -/
theorem sout_A (hc0 : cond0_0 i) :
    sout0_A_0 c i arg1 harg1 arg2 harg2 arg3 harg3 arg4 harg4 arg5 harg5 arg6 harg6 hc0 x0 x1 x2 x3 = rotated x0 := by
  funext y
  have hcov := scover0_A_0 c i arg1 harg1 arg2 harg2 arg3 harg3 arg4 harg4 arg5 harg5 arg6 harg6 hc0 x0 x1 x2 x3 y
  unfold sout0_A_0
  rw [View.read_writes_junk_eq_canon]
  have hL : (kernelRun0_A c i arg1 harg1 arg2 harg2 arg3 harg3 arg4 harg4 arg5 harg5 arg6 harg6 hc0 x0 x1 x2 x3).2.1
      = pieces x0 32 (Nat.le_refl _) := by
    unfold kernelRun0_A
    dsimp only
    sl_unfold_words
    simp only [View.readAt_eq_ld, harg1.read_unread, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46,  shapeCast_self]
    rfl
  rw [hL] at hcov ⊢
  exact View.canon_apply_of_pieces (rotated x0) _ (pieces_agree x0 32 _) y hcov

/-- The first point's output block: its loads of the scratch read what it has just stored there. -/
theorem out_A (hc0 : cond0_0 i) :
    out0_A_4 c i arg1 harg1 arg2 harg2 arg3 harg3 arg4 harg4 arg5 harg5 arg6 harg6 hc0 x0 x1 x2 x3
      = outBlock x1 x2 x3 (rotated x0) := by
  rw [← sout_A c i arg1 harg1 arg2 harg2 arg3 harg3 arg4 harg4 arg5 harg5 arg6 harg6 x0 x1 x2 x3 hc0]
  unfold out0_A_4 sout0_A_0
  simp only [View.read_writes_junk_eq_canon]
  unfold kernelRun0_A
  dsimp only
  sl_unfold_words
  rw [View.canon_unit_zero hz]
  simp only [View.readAt_eq_ld, harg1.read_unread, harg2.read_unread, harg3.read_unread, harg4.read_unread, shapeCast_self,
    View.readCov_eq_canon']
  generalize (View.canon (Val := Elt F) _ : S256x8192.Idx → Elt F .bf16) = X
  rfl

end Cert.KernelIdeal.Body
-- ==== Proof.Rotate.lean ====
/-
  The kernel's rotation over the extended reals, at an index: the scratch the first point leaves holds each row of its
  input rotated.

    signs_apply      the 256 × 256 sign matrix is two copies of the 128 × 128 one on the diagonal, zero elsewhere
    rotated_apply    entry (r, q) of the scratch is entry q of row r rotated
-/
module

public import proofs.«01_k».proof.Proof.Spec
public import proofs.«01_k».proof.Proof.Body

@[expose] public section

noncomputable section

namespace Cert.KernelIdeal.Body

open Cert.KernelIdeal Cert.KernelIdeal.Gen Cert.Spec
open Idealize.ShloMosaic Idealize.ShloMosaic.TcCoe Idealize.ShloMosaic.Tactic

/-- An entry of the sign matrix: the sign inside a diagonal block, zero outside. -/
theorem signs_apply (k j : Fin 256) :
    signs (F := Ideal) (ix2 k j) = if k.val / 128 = j.val / 128 then sgn (k.val % 128) (j.val % 128) else 0 := by
  unfold signs
  unfold_payloads
  pointwise
  rw [neg_one_word]
  change Scalar.select (IntOp.cmpi .eq (blockOf (BitVec.ofNat 32 k.val)) (blockOf (BitVec.ofNat 32 j.val)))
    (Scalar.select (parity (IntOp.andi (IntOp.andi (BitVec.ofNat 32 k.val) (BitVec.ofNat 32 j.val)) 127#32)) (1 : EReal) (-1)) 0 = _
  rw [sgn_of_parity, blockOf_eq]
  by_cases h : k.val / 128 = j.val / 128 <;> simp [h, Scalar.select]

/-- A sum over 256 of which only one block of 128 is not zero. -/
theorem sum_block (f : Fin 256 → EReal) (b : ℕ) (hb : b < 2) :
    ∑ k : Fin 256, (if k.val / 128 = b then f k else 0) = ∑ a : Fin 128, f ⟨b * 128 + a.val, by omega⟩ := by
  rw [Fin.sum_univ_tiles 2 128 (by decide)]
  rw [Finset.sum_eq_single (⟨b, hb⟩ : Fin 2)]
  · refine Finset.sum_congr rfl fun a _ => if_pos ?_
    show (b * 128 + a.val) / 128 = b
    omega
  · intro c _ hc
    refine Finset.sum_eq_zero fun a _ => if_neg ?_
    show ¬(c.val * 128 + a.val) / 128 = b
    intro h
    exact hc (Fin.ext (by show c.val = b; omega))
  · intro h; exact absurd (Finset.mem_univ _) h

/-- The scratch at an index: the row's entry rotated. -/
theorem rotated_apply (x0 : Vec Ideal S256x8192 .bf16) (r : Fin 256) (q : Fin 8192) :
    rotated (F := Ideal) x0 (ix2 r q) = rotRow (fun k => x0 (ix2 r k)) q := by
  unfold rotated
  pointwise [rotBlock, inCol]
  simp only [signs_apply, mul_ite, mul_zero]
  rw [sum_block _ (q.val % 256 / 128) (by omega)]
  change _ * scale = _
  rw [sum_mul_of_nonneg _ _ scale_nonneg scale_ne_top]
  unfold rotRow
  refine Finset.sum_congr rfl fun a _ => ?_
  dsimp only
  rw [mul_assoc, show (q.val % 256 / 128 * 128 + a.val) % 128 = a.val from by omega,
    show q.val % 256 % 128 = q.val % 128 from by omega]
  congr 3
  apply Fin.ext
  show 256 * (q.val / 256) + (q.val % 256 / 128 * 128 + a.val) = q.val / 128 * 128 + a.val
  omega

end Cert.KernelIdeal.Body
-- ==== Proof.Product.lean ====
/-
  The kernel's product over the extended reals, at an index: the output block is, at (r, l), row r of the scratch
  against column l of the dequantized weights' block.

    chunk_apply      one chunk's two products, at an index
    acc_apply        the accumulator after n chunks is the sum of the chunks' products
    outBlock_apply   the output block, the chunks' sums put together into one
-/
module

public import proofs.«01_k».proof.Proof.Spec
public import proofs.«01_k».proof.Proof.Body

@[expose] public section

noncomputable section

namespace Cert.KernelIdeal.Body

open Cert.KernelIdeal Cert.KernelIdeal.Gen Cert.Spec
open Idealize.ShloMosaic Idealize.ShloMosaic.TcCoe Idealize.ShloMosaic.Tactic

variable (x1 : Vec Ideal S4096x512 .i8) (x2 x3 : Vec Ideal S64x512 .bf16) (xs : Vec Ideal S256x8192 .bf16)

/-- What packed row `k` adds to the output at (r, l) through its low code. -/
def lowTerm (r : Fin 256) (l : Fin 512) (k : Fin 4096) : EReal :=
  xs (ix2 r (⟨k.val, by omega⟩ : Fin 8192)) *
    ((lowCode (x1 (ix2 k l)) - x3 (ix2 (⟨k.val / 128, by omega⟩ : Fin 64) l)) * x2 (ix2 (⟨k.val / 128, by omega⟩ : Fin 64) l))

/-- What packed row `k` adds to the output at (r, l) through its high code. -/
def highTerm (r : Fin 256) (l : Fin 512) (k : Fin 4096) : EReal :=
  xs (ix2 r (⟨4096 + k.val, by omega⟩ : Fin 8192)) *
    ((highCode (x1 (ix2 k l)) - x3 (ix2 (⟨32 + k.val / 128, by omega⟩ : Fin 64) l)) *
      x2 (ix2 (⟨32 + k.val / 128, by omega⟩ : Fin 64) l))

/-- A weight of a block of low codes: its first 128 rows belong to one group and the rest to the next. -/
theorem weight_lo (p : Vec Ideal S256x512 .i8) (z s z' s' : Vec Ideal S1x512 .bf16) (r : Fin 256) (l : Fin 512) :
    weight (F := Ideal) (codeLo p) z s z' s' (ix2 r l)
      = if r.val < 128 then (lowCode (p (ix2 r l)) - z (ix2 0 l)) * s (ix2 0 l)
        else (lowCode (p (ix2 r l)) - z' (ix2 0 l)) * s' (ix2 0 l) := by
  pointwise [weight, codeLo]
  by_cases h : r.val < 128
  · rw [dif_pos h, if_pos h, ← low_of_byte]; rfl
  · rw [dif_neg h, if_neg h, ← low_of_byte]
    have e : (⟨128 + (r.val - 128), by omega⟩ : Fin 256) = r := Fin.ext (by show 128 + (r.val - 128) = r.val; omega)
    rw [e]; rfl

/-- A weight of a block of high codes. -/
theorem weight_hi (p : Vec Ideal S256x512 .i8) (z s z' s' : Vec Ideal S1x512 .bf16) (r : Fin 256) (l : Fin 512) :
    weight (F := Ideal) (codeHi p) z s z' s' (ix2 r l)
      = if r.val < 128 then (highCode (p (ix2 r l)) - z (ix2 0 l)) * s (ix2 0 l)
        else (highCode (p (ix2 r l)) - z' (ix2 0 l)) * s' (ix2 0 l) := by
  pointwise [weight, codeHi]
  by_cases h : r.val < 128
  · rw [dif_pos h, if_pos h, ← high_of_byte]; rfl
  · rw [dif_neg h, if_neg h, ← high_of_byte]
    have e : (⟨128 + (r.val - 128), by omega⟩ : Fin 256) = r := Fin.ext (by show 128 + (r.val - 128) = r.val; omega)
    rw [e]; rfl

/-- One product added, at an index. -/
theorem add1_apply (a : FVec Ideal S256x512 .f32) (x : Vec Ideal S256x256 .bf16) (w : FVec Ideal S256x512 .bf16)
    (r : Fin 256) (l : Fin 512) :
    add1 (F := Ideal) a x w (ix2 r l) = a (ix2 r l) + ∑ k : Fin 256, x (ix2 r k) * w (ix2 k l) := by
  pointwise [add1]

/-- A block of columns of the scratch, at an index. -/
theorem ld_col (c : ℕ) (h : c < 32) (r k : Fin 256) :
    View.ld (Val := Elt Ideal) xs (colRect c h) (ix2 r k) = xs (ix2 r (⟨256 * c + k.val, by omega⟩ : Fin 8192)) := by
  pointwise

/-- A block of rows of the packed weights, at an index. -/
theorem ld_row (c : ℕ) (h : c < 16) (k : Fin 256) (l : Fin 512) :
    View.ld (Val := Elt Ideal) x1 (rowRect c h) (ix2 k l) = x1 (ix2 (⟨256 * c + k.val, by omega⟩ : Fin 4096) l) := by
  pointwise

/-- A group's row of the scales or of the zero points, at an index. -/
theorem ld_grp (x : Vec Ideal S64x512 .bf16) (g : ℕ) (h : g < 64) (l : Fin 512) :
    View.ld (Val := Elt Ideal) x (grpRect g h) (ix2 0 l) = x (ix2 (⟨g, h⟩ : Fin 64) l) := by
  pointwise

/-- The low codes' product of chunk `n`, at an index. -/
theorem chunk_lo (n : ℕ) (h : n < 16) (r : Fin 256) (l : Fin 512) :
    ∑ k : Fin 256, View.ld (Val := Elt Ideal) xs (colRect n (by omega)) (ix2 r k) *
      weight (F := Ideal) (codeLo (View.ld x1 (rowRect n h))) (View.ld x3 (grpRect (2 * n) (by omega)))
        (View.ld x2 (grpRect (2 * n) (by omega))) (View.ld x3 (grpRect (2 * n + 1) (by omega)))
        (View.ld x2 (grpRect (2 * n + 1) (by omega))) (ix2 k l)
    = ∑ t : Fin 256, lowTerm x1 x2 x3 xs r l ⟨n * 256 + t.val, by omega⟩ := by
  refine Finset.sum_congr rfl fun k _ => ?_
  rw [weight_lo, ld_col, ld_row, ld_grp, ld_grp, ld_grp, ld_grp]
  unfold lowTerm
  have e : ∀ g (hg : g < 64), g = (n * 256 + k.val) / 128 →
      (⟨g, hg⟩ : Fin 64) = ⟨(n * 256 + k.val) / 128, by omega⟩ := fun g hg he => Fin.ext he
  have c1 : (⟨256 * n + k.val, by omega⟩ : Fin 8192) = ⟨n * 256 + k.val, by omega⟩ := Fin.ext (by show 256 * n + k.val = n * 256 + k.val; omega)
  have c2 : (⟨256 * n + k.val, by omega⟩ : Fin 4096) = ⟨n * 256 + k.val, by omega⟩ := Fin.ext (by show 256 * n + k.val = n * 256 + k.val; omega)
  rw [c1, c2]
  by_cases hk : k.val < 128
  · rw [if_pos hk, e (2 * n) _ (by omega)]
  · rw [if_neg hk, e (2 * n + 1) _ (by omega)]

/-- The high codes' product of chunk `n`, at an index. -/
theorem chunk_hi (n : ℕ) (h : n < 16) (r : Fin 256) (l : Fin 512) :
    ∑ k : Fin 256, View.ld (Val := Elt Ideal) xs (colRect (n + 16) (by omega)) (ix2 r k) *
      weight (F := Ideal) (codeHi (View.ld x1 (rowRect n h))) (View.ld x3 (grpRect (2 * n + 32) (by omega)))
        (View.ld x2 (grpRect (2 * n + 32) (by omega))) (View.ld x3 (grpRect (2 * n + 33) (by omega)))
        (View.ld x2 (grpRect (2 * n + 33) (by omega))) (ix2 k l)
    = ∑ t : Fin 256, highTerm x1 x2 x3 xs r l ⟨n * 256 + t.val, by omega⟩ := by
  refine Finset.sum_congr rfl fun k _ => ?_
  rw [weight_hi, ld_col, ld_row, ld_grp, ld_grp, ld_grp, ld_grp]
  unfold highTerm
  have e : ∀ g (hg : g < 64), g = 32 + (n * 256 + k.val) / 128 →
      (⟨g, hg⟩ : Fin 64) = ⟨32 + (n * 256 + k.val) / 128, by omega⟩ := fun g hg he => Fin.ext he
  have c1 : (⟨256 * (n + 16) + k.val, by omega⟩ : Fin 8192) = ⟨4096 + (n * 256 + k.val), by omega⟩ :=
    Fin.ext (by show 256 * (n + 16) + k.val = 4096 + (n * 256 + k.val); omega)
  have c2 : (⟨256 * n + k.val, by omega⟩ : Fin 4096) = ⟨n * 256 + k.val, by omega⟩ := Fin.ext (by show 256 * n + k.val = n * 256 + k.val; omega)
  rw [c1, c2]
  by_cases hk : k.val < 128
  · rw [if_pos hk, e (2 * n + 32) _ (by omega)]
  · rw [if_neg hk, e (2 * n + 33) _ (by omega)]

/-- The accumulator after `n` chunks, at an index: the sum of the chunks' products. -/
theorem acc_apply (r : Fin 256) (l : Fin 512) : ∀ (n : ℕ) (h : n ≤ 16),
    acc (F := Ideal) x1 x2 x3 xs n h (ix2 r l)
      = ∑ c : Fin n, ((∑ t : Fin 256, lowTerm x1 x2 x3 xs r l ⟨c.val * 256 + t.val, by omega⟩) +
          ∑ t : Fin 256, highTerm x1 x2 x3 xs r l ⟨c.val * 256 + t.val, by omega⟩)
  | 0, _ => by
    unfold acc
    simp only [Finset.univ_eq_empty, Finset.sum_empty]
    exact Ideal.ofBits_zero_f32
  | n + 1, h => by
    unfold acc
    rw [add1_apply, add1_apply, acc_apply r l n (Nat.le_of_succ_le h), chunk_lo, chunk_hi, add_assoc]
    exact (Fin.sum_univ_castSucc (fun c : Fin (n + 1) => (∑ t : Fin 256, lowTerm x1 x2 x3 xs r l ⟨c.val * 256 + t.val, by omega⟩) +
      ∑ t : Fin 256, highTerm x1 x2 x3 xs r l ⟨c.val * 256 + t.val, by omega⟩)).symm

/-- The output block at an index: the scratch's row against the column of dequantized weights. -/
theorem outBlock_apply (r : Fin 256) (l : Fin 512) :
    outBlock (F := Ideal) x1 x2 x3 xs (ix2 r l)
      = dotCol (fun k => xs (ix2 r k)) (fun k => x1 (ix2 k l)) (fun g => x2 (ix2 g l)) (fun g => x3 (ix2 g l)) := by
  have h : outBlock (F := Ideal) x1 x2 x3 xs (ix2 r l) = acc (F := Ideal) x1 x2 x3 xs 16 (Nat.le_refl _) (ix2 r l) := rfl
  rw [h, acc_apply, Finset.sum_add_distrib]
  unfold dotCol
  congr 1
  · exact (Fin.sum_univ_tiles 16 256 (by decide) (lowTerm x1 x2 x3 xs r l)).symm
  · exact (Fin.sum_univ_tiles 16 256 (by decide) (highTerm x1 x2 x3 xs r l)).symm

end Cert.KernelIdeal.Body
-- ==== Proof.Array.lean ====
/-
  What the kernel's result array holds after the run, over the extended reals: entry (r, j) is row r of the activations
  rotated, against column j of the dequantized weights.

    V_x             the array the first window reads is the activations, their unit axis dropped
    iblk0_apply …   the input blocks of grid point t, at an index: all the activations, and columns 512 t … of the rest
    outs_eq         after every point the carried scratch holds the activations rotated, and the output block is the
                    point's product over it
    array_apply     the result array
-/
module

public import proofs.«01_k».proof.Proof.Rotate
public import proofs.«01_k».proof.Proof.Product
public import proofs.«01_k».proof.Proof.Gen.KernelIdeal.Value

@[expose] public section

noncomputable section

namespace Cert.KernelIdeal.Result

open Cert.KernelIdeal Cert.KernelIdeal.Gen Cert.KernelIdeal.Body Cert.Spec
open Idealize.ShloMosaic Idealize.ShloMosaic.TcCoe Idealize.ShloMosaic.Tactic

variable (m : (ℓ : Loc nD τ sig) → Buf (Elt Ideal) ℓ)

/-! ## The input blocks -/

/-- The array the first window reads is the activations reshaped to 256 rows. -/
theorem V_x (c : Dev nD) : V m c main_v0
    = shapeCast S256x8192 (m ((c : Thread nD τ).loc main_arg0)) shapeCasts_S256x1x8192_S256x8192 := by
  unfold V
  after_results
  rfl

/-- That reshape at an index. -/
theorem reshape_x (x : Vec Ideal S256x1x8192 .bf16) (r : Fin 256) (k : Fin 8192) :
    shapeCast S256x8192 x shapeCasts_S256x1x8192_S256x8192 (ix2 r k) = x (ix3 r 0 k) := by
  pointwise

/-- The first window's block index is zero at every point. -/
theorem idx0 : ∀ t : Fin cfg0.N, win0_0.index t (0 : Fin 2) = 0 ∧ win0_0.index t (1 : Fin 2) = 0 :=
  (by decide +kernel : ∀ t : Fin grid0.N, _)

/-- The packed weights' window takes column block `t` at point `t`. -/
theorem idx1 : ∀ t : Fin cfg0.N, win0_1.index t (0 : Fin 2) = 0 ∧ win0_1.index t (1 : Fin 2) = t.val :=
  (by decide +kernel : ∀ t : Fin grid0.N, _)

/-- The scales' window takes column block `t` at point `t`. -/
theorem idx2 : ∀ t : Fin cfg0.N, win0_2.index t (0 : Fin 2) = 0 ∧ win0_2.index t (1 : Fin 2) = t.val :=
  (by decide +kernel : ∀ t : Fin grid0.N, _)

/-- The zero points' window takes column block `t` at point `t`. -/
theorem idx3 : ∀ t : Fin cfg0.N, win0_3.index t (0 : Fin 2) = 0 ∧ win0_3.index t (1 : Fin 2) = t.val :=
  (by decide +kernel : ∀ t : Fin grid0.N, _)

/-- A column of a block is a column of the array. -/
theorem col_lt (t : Fin cfg0.N) (l : Fin 512) : 512 * t.val + l.val < 8192 := by
  have hN := lt_of_lt_of_eq t.isLt (show cfg0.N = 16 from N_0)
  omega

/-- The first window's block at an index. -/
theorem iblk0_apply (c : Dev nD) (t : Fin cfg0.N) (r : Fin 256) (k : Fin 8192) :
    (iblk m c 0 t : Vec Ideal S256x8192 .bf16) (ix2 r k) = (m ((c : Thread nD τ).loc main_arg0) : Vec Ideal S256x1x8192 .bf16) (ix3 r 0 k) := by
  obtain ⟨h0, h1⟩ := idx0 t
  have e : (iblk m c 0 t : Vec Ideal S256x8192 .bf16) (ix2 r k) = (V m c main_v0 : Vec Ideal S256x8192 .bf16) (ix2 r k) := by
    unfold iblk
    rw [View.read_apply]
    show V m c main_v0 _ = V m c main_v0 _
    congr 1
    funext a
    apply Fin.ext
    match a with
    | ⟨0, _⟩ => show win0_0.index t (0 : Fin 2) * 256 + 1 * r.val = r.val; rw [h0]; omega
    | ⟨1, _⟩ => show win0_0.index t (1 : Fin 2) * 8192 + 1 * k.val = k.val; rw [h1]; omega
  rw [e, V_x]
  exact reshape_x _ r k

/-- The packed weights' block at an index. -/
theorem iblk1_apply (c : Dev nD) (t : Fin cfg0.N) (k : Fin 4096) (l : Fin 512) :
    (iblk m c 1 t : Vec Ideal S4096x512 .i8) (ix2 k l)
      = (m ((c : Thread nD τ).loc main_arg1) : Vec Ideal S4096x8192 .i8) (ix2 k ⟨512 * t.val + l.val, col_lt t l⟩) := by
  obtain ⟨h0, h1⟩ := idx1 t
  unfold iblk
  rw [View.read_apply]
  show V m c main_arg1 _ = _
  rw [V_main_arg1]
  congr 1
  funext a
  apply Fin.ext
  match a with
  | ⟨0, _⟩ => show win0_1.index t (0 : Fin 2) * 4096 + 1 * k.val = k.val; rw [h0]; omega
  | ⟨1, _⟩ => show win0_1.index t (1 : Fin 2) * 512 + 1 * l.val = 512 * t.val + l.val; rw [h1]; omega

/-- The scales' block at an index. -/
theorem iblk2_apply (c : Dev nD) (t : Fin cfg0.N) (g : Fin 64) (l : Fin 512) :
    (iblk m c 2 t : Vec Ideal S64x512 .bf16) (ix2 g l)
      = (m ((c : Thread nD τ).loc main_arg2) : Vec Ideal S64x8192 .bf16) (ix2 g ⟨512 * t.val + l.val, col_lt t l⟩) := by
  obtain ⟨h0, h1⟩ := idx2 t
  unfold iblk
  rw [View.read_apply]
  show V m c main_arg2 _ = _
  rw [V_main_arg2]
  congr 1
  funext a
  apply Fin.ext
  match a with
  | ⟨0, _⟩ => show win0_2.index t (0 : Fin 2) * 64 + 1 * g.val = g.val; rw [h0]; omega
  | ⟨1, _⟩ => show win0_2.index t (1 : Fin 2) * 512 + 1 * l.val = 512 * t.val + l.val; rw [h1]; omega

/-- The zero points' block at an index. -/
theorem iblk3_apply (c : Dev nD) (t : Fin cfg0.N) (g : Fin 64) (l : Fin 512) :
    (iblk m c 3 t : Vec Ideal S64x512 .bf16) (ix2 g l)
      = (m ((c : Thread nD τ).loc main_arg3) : Vec Ideal S64x8192 .bf16) (ix2 g ⟨512 * t.val + l.val, col_lt t l⟩) := by
  obtain ⟨h0, h1⟩ := idx3 t
  unfold iblk
  rw [View.read_apply]
  show V m c main_arg3 _ = _
  rw [V_main_arg3]
  congr 1
  funext a
  apply Fin.ext
  match a with
  | ⟨0, _⟩ => show win0_3.index t (0 : Fin 2) * 64 + 1 * g.val = g.val; rw [h0]; omega
  | ⟨1, _⟩ => show win0_3.index t (1 : Fin 2) * 512 + 1 * l.val = 512 * t.val + l.val; rw [h1]; omega

/-- The first window's block is the same at every point. -/
theorem iblk0_const (c : Dev nD) (t t' : Fin cfg0.N) :
    (iblk m c 0 t : Vec Ideal S256x8192 .bf16) = (iblk m c 0 t' : Vec Ideal S256x8192 .bf16) := by
  funext j
  idx_vars j
  rw [iblk0_apply, iblk0_apply]

/-! ## After every point -/

/-- The scratch after every point: the activations rotated. -/
theorem scratch_eq (c : Dev nD) (t : Fin cfg0.N) : ∀ (n : ℕ) (hn : n < cfg0.N),
    (outsAt0 m c n hn).2 = rotated (iblk m c 0 t : Vec Ideal S256x8192 .bf16)
  | 0, hn => by
    rw [outsAt0_A m c ⟨0, hn⟩ rfl, iblk0_const m c t ⟨0, hn⟩]
    dsimp only
    rw [sout_A]
  | n + 1, hn => by
    have hN := lt_of_lt_of_eq hn (show cfg0.N = 16 from N_0)
    have hB : ¬(⟨n + 1, hn⟩ : Fin cfg0.N).val % 16 = 0 := by dsimp only; omega
    rw [outsAt0_B m c ⟨n + 1, hn⟩ hB]
    exact scratch_eq c t n (Nat.lt_of_succ_lt hn)

/-- The output block after every point: the point's product over the rotated activations. -/
theorem outs_eq (c : Dev nD) (t : Fin cfg0.N) :
    (outsAt0 m c t.val t.isLt).1
      = outBlock (F := Ideal) (iblk m c 1 t) (iblk m c 2 t) (iblk m c 3 t) (rotated (iblk m c 0 t : Vec Ideal S256x8192 .bf16)) := by
  by_cases h : t.val % 16 = 0
  · rw [outsAt0_A m c t h]
    dsimp only
    rw [out_A]
  · rw [outsAt0_B m c t h]
    dsimp only
    rw [out_B, scratch_eq m c t]

/-! ## The result array -/

/-- The result array at an index. -/
theorem array_apply (c : Dev nD) (r : Fin 256) (j : Fin 8192) :
    (Value.G4 m c : Vec Ideal S256x8192 .bf16) (ix2 r j)
      = dotCol (rotRow fun k => (m ((c : Thread nD τ).loc main_arg0) : Vec Ideal S256x1x8192 .bf16) (ix3 r 0 k))
          (fun k => (m ((c : Thread nD τ).loc main_arg1) : Vec Ideal S4096x8192 .i8) (ix2 k j))
          (fun g => (m ((c : Thread nD τ).loc main_arg2) : Vec Ideal S64x8192 .bf16) (ix2 g j))
          (fun g => (m ((c : Thread nD τ).loc main_arg3) : Vec Ideal S64x8192 .bf16) (ix2 g j)) := by
  have hj : j.val / 512 < cfg0.N := by rw [show cfg0.N = 16 from N_0]; omega
  have hp : Value.pt4Of (ix2 r j) = j.val / 512 := by
    show 16 * (r.val / 256 - 0) + 1 * (j.val / 512 - 0) = j.val / 512
    omega
  have hl : Value.loc4Of (ix2 r j) = ix2 r (⟨j.val % 512, Nat.mod_lt _ (by decide)⟩ : Fin 512) := by
    funext a
    apply Fin.ext
    match a with
    | ⟨0, _⟩ => show r.val % 256 = r.val; omega
    | ⟨1, _⟩ => rfl
  have hcol : ∀ h, (⟨512 * (j.val / 512) + j.val % 512, h⟩ : Fin 8192) = j := fun h =>
    Fin.ext (by show 512 * (j.val / 512) + j.val % 512 = j.val; omega)
  have e : (Value.G4 m c : Vec Ideal S256x8192 .bf16) (ix2 r j)
      = (outsAt0 m c (j.val / 512) hj).1 (ix2 r (⟨j.val % 512, Nat.mod_lt _ (by decide)⟩ : Fin 512)) := by
    unfold Value.G4
    rw [dif_pos (by rw [hp]; exact hj), hl, Value.outsAt0_sweep, Value.fold0_congr m c _ _ _ _ hp]
  rw [e]
  have := outs_eq m c ⟨j.val / 512, hj⟩
  dsimp only at this
  rw [this, outBlock_apply]
  simp only [rotated_apply, iblk0_apply, iblk1_apply, iblk2_apply, iblk3_apply, hcol]

end Cert.KernelIdeal.Result
-- ==== Proof.Reference.lean ====
/-
  The reference's result over the extended reals, at an index: entry (r, j) is row r of the activations rotated, against
  column j of the dequantized weights.

    signs_apply    an entry of the matrix of signs
    result_apply   an entry of the result
-/
module

public import proofs.«01_k».proof.Proof.Spec
public import proofs.«01_k».proof.Proof.Gen.ReferenceIdeal.Run

@[expose] public section

noncomputable section

namespace Cert.ReferenceIdeal.Result

open Cert.ReferenceIdeal Cert.ReferenceIdeal.Gen Cert.Spec
open Idealize.ShloMosaic Idealize.ShloMosaic.TcCoe Idealize.ShloMosaic.Tactic

/-- One 32-bit number at every entry of a 128 × 128 matrix. -/
abbrev fill (b : BitVec 32) : IVec S128x128 32 := broadcastInDim S128x128 ![] bcast_S_S128x128 (constantI S_ 32 b)

/-- One float at every entry of a 128 × 128 matrix. -/
abbrev fillF (b : BitVec 32) : FVec Ideal S128x128 .f32 := broadcastInDim S128x128 ![] bcast_S_S128x128 (constant S_ .f32 b)

/-- The matrix of signs, by the parity of the bits that the row's and the column's numbers share. -/
def signs : FVec Ideal S128x128 .f32 :=
  select
    (cmpi .eq
      (andi
        (ctpop
          (andi
            (broadcastInDim S128x128 ![0, 1] bcast_S128x1_S128x128_0_1
              (broadcastInDim S128x1 ![0] bcast_S128_S128x1_0 (iotaInDim S128 32 0)))
            (broadcastInDim S128x128 ![0, 1] bcast_S1x128_S128x128_0_1
              (broadcastInDim S1x128 ![1] bcast_S128_S1x128_1 (iotaInDim S128 32 0)))))
        (fill 1#32))
      (fill 0#32))
    (fillF 0x3F800000#32) (fillF 0xBF800000#32)

/-- The activations rotated: each group of 128 against the scaled signs. -/
def rotated (x : Vec Ideal S256x1x8192 .bf16) : FVec Ideal S256x1x8192 .bf16 :=
  truncf .bf16
    (shapeCast _
      (Host.dotGeneral dot_S256x1x64x128_S128x128_S256x1x64x128_3_0_012_1_n_n (some .fp32)
        (shapeCast _ (extf .f32 x bitsLt_bf16_f32) shapeCasts_S256x1x8192_S256x1x64x128)
        (mulf signs (fillF 0x3DB504F3#32)))
      shapeCasts_S256x1x64x128_S256x1x8192) bitsLt_bf16_f32

/-- A row of 32 groups repeated over each group's 128 rows. -/
abbrev overGroups (g : FVec Ideal S32x8192 .bf16) : FVec Ideal S32x128x8192 .bf16 :=
  broadcastInDim S32x128x8192 ![0, 1, 2] bcast_S32x1x8192_S32x128x8192_0_1_2
    (broadcastInDim S32x1x8192 ![0, 2] bcast_S32x8192_S32x1x8192_0_2 g)

/-- Half of the weights, from its codes and its groups' zero points and scales. -/
def weights (q : IVec S4096x8192 32) (z s : FVec Ideal S32x8192 .bf16) : FVec Ideal S4096x8192 .bf16 :=
  shapeCast _
    (mulf (subf (shapeCast _ (sitofp .bf16 q) shapeCasts_S4096x8192_S32x128x8192) (overGroups z)) (overGroups s))
    shapeCasts_S32x128x8192_S4096x8192

/-- The result: the rotated activations' first half against the low codes' weights, and the second half against the high
    codes'. -/
def result (x : Vec Ideal S256x1x8192 .bf16) (p : Vec Ideal S4096x8192 .i8) (s z : Vec Ideal S64x8192 .bf16) :
    Vec Ideal S256x8192 .bf16 :=
  shapeCast _
    (truncf .bf16
      (addf
        (Host.dotGeneral dot_S256x1x4096_S4096x8192_S256x1x8192_2_0_01_1_n_n none
          (extractStridedSlice S256x1x4096 ![0, 0, 0] (rotated x) slices_S256x1x8192_S256x1x4096_0_0_0)
          (weights (andi (extui 32 p natLt_8_32) (broadcastInDim S4096x8192 ![] bcast_S_S4096x8192 (constantI S_ 32 15#32)))
            (extractStridedSlice S32x8192 ![0, 0] z slices_S64x8192_S32x8192_0_0)
            (extractStridedSlice S32x8192 ![0, 0] s slices_S64x8192_S32x8192_0_0)))
        (Host.dotGeneral dot_S256x1x4096_S4096x8192_S256x1x8192_2_0_01_1_n_n none
          (extractStridedSlice S256x1x4096 ![0, 0, 4096] (rotated x) slices_S256x1x8192_S256x1x4096_0_0_4096)
          (weights (Host.shrsi (extui 32 p natLt_8_32) (broadcastInDim S4096x8192 ![] bcast_S_S4096x8192 (constantI S_ 32 4#32)))
            (extractStridedSlice S32x8192 ![32, 0] z slices_S64x8192_S32x8192_32_0)
            (extractStridedSlice S32x8192 ![32, 0] s slices_S64x8192_S32x8192_32_0))))
      bitsLt_bf16_f32)
    shapeCasts_S256x1x8192_S256x8192

/-- An entry of the matrix of signs. -/
theorem signs_apply (a b : Fin 128) : signs (ix2 a b) = sgn a.val b.val := by
  pointwise [signs]
  rw [neg_one_word]
  exact sgn_of_ctpop a.val b.val a.isLt

/-- An entry of the rotated activations. -/
theorem rotated_apply (x : Vec Ideal S256x1x8192 .bf16) (r : Fin 256) (q : Fin 8192) :
    rotated x (ix3 r 0 q) = rotRow (fun k => x (ix3 r 0 k)) q := by
  pointwise [rotated]
  simp only [signs_apply]
  rfl

/-- An entry of the result. -/
theorem result_apply (x : Vec Ideal S256x1x8192 .bf16) (p : Vec Ideal S4096x8192 .i8) (s z : Vec Ideal S64x8192 .bf16)
    (r : Fin 256) (j : Fin 8192) :
    result x p s z (ix2 r j)
      = dotCol (rotRow fun k => x (ix3 r 0 k)) (fun k => p (ix2 k j)) (fun g => s (ix2 g j)) (fun g => z (ix2 g j)) := by
  pointwise [result, weights]
  simp only [rotated_apply]
  unfold dotCol
  simp only [← low_of_word, ← high_of_word]
  rfl

end Cert.ReferenceIdeal.Result
-- ==== Proof.lean ====
/-
  The proof of the certificate's claim, put together: the kernel runs to completion at machine words and at the extended
  reals, and so does the reference; the idealized kernel is the kernel with nothing rewritten; and over the extended reals
  the kernel's result array is the reference's, entry by entry.

    Proof/Body.lean        what one grid point's body leaves, as closed terms
    Proof/Spec.lean        the values both programs compute
    Proof/Rotate.lean      the kernel's rotation at an index
    Proof/Product.lean     the kernel's product at an index
    Proof/Array.lean       the kernel's result array at an index
    Proof/Reference.lean   the reference's result at an index
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Idealize.ShloMosaic.Tactic

/-- The kernel's result array is the reference's result of the same arguments. -/
theorem result_eq (m : (ℓ : Loc Cert.KernelIdeal.nD Cert.KernelIdeal.τ Cert.KernelIdeal.sig) → Buf (Elt Ideal) ℓ)
    (c : Dev Cert.KernelIdeal.nD) :
    (Cert.KernelIdeal.Value.G4 m c : Vec Ideal Cert.KernelIdeal.S256x8192 .bf16)
      = Cert.ReferenceIdeal.Result.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext j
  idx_vars j
  rw [Cert.KernelIdeal.Result.array_apply, Cert.ReferenceIdeal.Result.result_apply]

/-- Over the extended reals the two programs end with the same result. -/
theorem algebraic : algebraic_KernelIdeal_ReferenceIdeal := by
  intro m g m' g' _ hargs
  refine ⟨fun c => Cert.KernelIdeal.Value.G4 m c, Cert.KernelIdeal.Value.run m g, ?_⟩
  refine (θ_run _ _ _).mono (fun r h c => ⟨(h c).1.trans ?_, (h c).2⟩) (Cert.ReferenceIdeal.Value.run m' g')
  obtain ⟨e0, e1, e2, e3⟩ := hargs c
  rw [e0, e1, e2, e3]
  exact (result_eq m c).symm

/-- The reference runs to completion, its arguments unchanged; it has no semaphores. -/
theorem reference_runs : quiescent_ReferenceIdeal := fun m ρ _ =>
  (θ_run _ _ _).mono (fun _ h => ⟨fun c => (h c).2, funext fun ⟨_, sm⟩ => nomatch sm⟩) (Cert.ReferenceIdeal.Value.run m ρ)

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  reference_runs, trivial, algebraic⟩

end Cert.Proof

end
